-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_head [hPre_finite_head : Cert.Pre_finite_head.Facts] (m : (ℓ : Loc Cert.KernelIdeal.nD Cert.KernelIdeal.τ Cert.KernelIdeal.sig) → Buf (Elt Ideal) ℓ) : Prop :=
  ∀ c : Dev Cert.KernelIdeal.nD,
    (Cert.Pre_finite_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_head [hPre_finite_head : Cert.Pre_finite_head.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_head [hKernelIdeal : Cert.KernelIdeal.Facts] [hPre_finite_head : Cert.Pre_finite_head.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_head m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_head [hReferenceIdeal : Cert.ReferenceIdeal.Facts] [hPre_finite_head : Cert.Pre_finite_head.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_head m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_head [hKernelIdeal : Cert.KernelIdeal.Facts] [hReferenceIdeal : Cert.ReferenceIdeal.Facts] [hPre_finite_head : Cert.Pre_finite_head.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_head m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_head : Cert.Pre_finite_head.Facts),
    quiescent_Kernel (hKernel := hKernel)
    ∧ quiescent_KernelIdeal (hKernelIdeal := hKernelIdeal)
    ∧ quiescent_KernelIdeal_pre_finite_head (hKernelIdeal := hKernelIdeal) (hPre_finite_head := hPre_finite_head)
    ∧ quiescent_ReferenceIdeal (hReferenceIdeal := hReferenceIdeal)
    ∧ quiescent_ReferenceIdeal_pre_finite_head (hReferenceIdeal := hReferenceIdeal) (hPre_finite_head := hPre_finite_head)
    ∧ preserves_Kernel_KernelIdeal
    ∧ algebraic_KernelIdeal_ReferenceIdeal_pre_finite_head (hKernelIdeal := hKernelIdeal) (hReferenceIdeal := hReferenceIdeal) (hPre_finite_head := hPre_finite_head)
-- ==== Pre_finite_head.lean ====
abbrev S50000x256 : Shape := ⟨2, ![50000, 256]⟩
abbrev S50000 : Shape := ⟨1, ![50000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S128x1 : S_.BroadcastsInDim S128x1 (![] : Fin 0 → Fin S128x1.rank)
  reducesTo_S128x1_S_d0_1 : S128x1.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S50000x256 .f32) (main_arg1 : IVec S50000 32) (main_arg2 : FVec F S256x128 .f32) (main_arg3 : FVec F S128 .f32) (main_arg4 : FVec F S128x1 .f32) (main_arg5 : FVec F S1 .f32) : IVec S_ 1 :=
  let main_v0 : FVec F S128x1 .f32 := Host.absf main_arg4
  let main_cst : FVec F S_ .f32 := constant S_ .f32 0x7F800000#32
  let main_v1 : FVec F S128x1 .f32 := broadcastInDim S128x1 ![] bcast_S_S128x1 main_cst
  let main_v2 : IVec S128x1 1 := cmpf .olt main_v0 main_v1
  let main_c : IVec S_ 1 := constantI S_ 1 1#1
  let main_v3 : IVec S_ 1 := (fun x v => Host.reduce IntOp.andi x v reducesTo_S128x1_S_d0_1 h_S_) main_v2 main_c
  let main_v4 : FVec F S1 .f32 := Host.absf main_arg5
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S50000x256 : Shape := ⟨2, ![50000, 256]⟩
abbrev S50000 : Shape := ⟨1, ![50000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S25x1x2000 : Shape := ⟨3, ![25, 1, 2000]⟩
abbrev S1x128 : Shape := ⟨2, ![1, 128]⟩
abbrev S1x1 : Shape := ⟨2, ![1, 1]⟩
abbrev S512x256 : Shape := ⟨2, ![512, 256]⟩
abbrev S1x1x2000 : Shape := ⟨3, ![1, 1, 2000]⟩
abbrev S2000x256 : Shape := ⟨2, ![2000, 256]⟩
abbrev S2000x128 : Shape := ⟨2, ![2000, 128]⟩
abbrev S1x2000 : Shape := ⟨2, ![1, 2000]⟩
abbrev S1x1x1 : Shape := ⟨3, ![1, 1, 1]⟩
abbrev S512x2000 : Shape := ⟨2, ![512, 2000]⟩

abbrev nBuf : Space → Nat
  | .hbm => 11
  | .vmem => 10
  | .smem => 1
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S25x1x2000, .i32⟩
  | .hbm, ⟨7, _⟩ => ⟨S1x128, .f32⟩
  | .hbm, ⟨8, _⟩ => ⟨S1x128, .f32⟩
  | .hbm, ⟨9, _⟩ => ⟨S1x1, .f32⟩
  | .hbm, ⟨10, _⟩ => ⟨S512x256, .f32⟩
  | .local _ .vmem, ⟨0, _⟩ => ⟨S1x1x2000, .i32⟩
  | .local _ .vmem, ⟨1, _⟩ => ⟨S1x1x2000, .i32⟩
  | .local _ .vmem, ⟨2, _⟩ => ⟨S2000x256, .f32⟩
  | .local _ .vmem, ⟨3, _⟩ => ⟨S2000x256, .f32⟩
  | .local _ .vmem, ⟨4, _⟩ => ⟨S256x128, .f32⟩
  | .local _ .vmem, ⟨5, _⟩ => ⟨S1x128, .f32⟩
  | .local _ .vmem, ⟨6, _⟩ => ⟨S1x128, .f32⟩
  | .local _ .vmem, ⟨7, _⟩ => ⟨S1x1, .f32⟩
  | .local _ .vmem, ⟨8, _⟩ => ⟨S512x256, .f32⟩
  | .local _ .vmem, ⟨9, _⟩ => ⟨S512x256, .f32⟩
  | .local _ .smem, ⟨0, _⟩ => ⟨S1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v41 : BitVec 1 := Scalar.cmpi .eq arg0 c24_i32
  let v42 : BitVec 32 := Scalar.extui v41
  let c0_i32_23 : BitVec 32 := 0#32
  let v43 : BitVec 1 := Scalar.cmpi .ne v42 c0_i32_23
  v43

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S50000x256 : Shape := ⟨2, ![50000, 256]⟩
abbrev S50000 : Shape := ⟨1, ![50000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S50000x128 : Shape := ⟨2, ![50000, 128]⟩
abbrev S1x128 : Shape := ⟨2, ![1, 128]⟩
abbrev S50000x1 : Shape := ⟨2, ![50000, 1]⟩
abbrev S1x1 : Shape := ⟨2, ![1, 1]⟩
abbrev S_ : Shape := ⟨0, ![]⟩
abbrev S512x256 : Shape := ⟨2, ![512, 256]⟩

abbrev nBuf : Space → Nat
  | .hbm => 35
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S50000x128, .f32⟩
  | .hbm, ⟨7, _⟩ => ⟨S1x128, .f32⟩
  | .hbm, ⟨8, _⟩ => ⟨S50000x128, .f32⟩
  | .hbm, ⟨9, _⟩ => ⟨S50000x128, .f32⟩
  | .hbm, ⟨10, _⟩ => ⟨S50000x128, .f32⟩
  | .hbm, ⟨11, _⟩ => ⟨S50000x1, .f32⟩
  | .hbm, ⟨12, _⟩ => ⟨S1x1, .f32⟩
  | .hbm, ⟨13, _⟩ => ⟨S50000x1, .f32⟩
  | .hbm, ⟨14, _⟩ => ⟨S50000x1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S1x1, .f32⟩
  | .hbm, ⟨21, _⟩ => ⟨S50000x1, .f32⟩
  | .hbm, ⟨22, _⟩ => ⟨S50000x1, .f32⟩
  | .hbm, ⟨23, _⟩ => ⟨S50000x1, .f32⟩
  | .hbm, ⟨24, _⟩ => ⟨S_, .f32⟩
  | .hbm, ⟨25, _⟩ => ⟨S1, .f32⟩
  | .hbm, ⟨26, _⟩ => ⟨S1x1, .f32⟩
  | .hbm, ⟨27, _⟩ => ⟨S50000x1, .f32⟩
  | .hbm, ⟨28, _⟩ => ⟨S50000x1, .f32⟩
  | .hbm, ⟨29, _⟩ => ⟨S50000x256, .f32⟩
  | .hbm, ⟨30, _⟩ => ⟨S50000x256, .f32⟩
  | .hbm, ⟨31, _⟩ => ⟨S_, .f32⟩
  | .hbm, ⟨32, _⟩ => ⟨S512x256, .f32⟩
  | .hbm, ⟨33, _⟩ => ⟨S50000x1, .i32⟩
  | .hbm, ⟨34, _⟩ => ⟨S512x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.Cases.lean ====
/-
  What one grid point leaves in the two carried scratches and in the output block, case by case, in terms of the kernel's own
  stored values: the pooled accumulator takes the accumulator it found plus the point's masked product, the sum of
  exponentials takes the word it found plus the point's sum, and the last point's output is the accumulator over that sum.
-/
module

public import proofs.«01_k».proof.Proof.Gen.KernelIdeal.Frame
public import Idealize.ShloMosaic.Lib.Pipeline.Value

@[expose] public section

set_option maxRecDepth 16384

noncomputable section

namespace Cert.KernelIdeal.Cases

open Cert.KernelIdeal.Gen Idealize.ShloMosaic Idealize.SL Idealize.SL.Sem

variable {F : FTy → Type} [FloatOps F]

/-- The one-axis zero offset. -/
theorem off1 : (![0] : Fin 1 → Nat) = fun _ => 0 := funext fun a => by fin_cases a <;> rfl

/-- The two-axis zero offset. -/
theorem off2 : (![0, 0] : Fin 2 → Nat) = fun _ => 0 := funext fun a => by fin_cases a <;> rfl

/-- The three-axis zero offset. -/
theorem off3 : (![0, 0, 0] : Fin 3 → Nat) = fun _ => 0 := funext fun a => by fin_cases a <;> rfl

/-- The one index of the word scratch. -/
def wordIdx : S1.Idx := fun a => ⟨0, by fin_cases a; exact Nat.one_pos⟩

/-- The first index of the word scratch is its one index. -/
theorem first_eq (h : 0 < S1.numel) : Shape.Idx.first h = wordIdx := funext fun a => by
  fin_cases a
  exact Subsingleton.elim (α := Fin 1) _ _

/-- What the middle point leaves in the accumulator. -/
theorem sout0_B_0_val (c : Dev nD) (i : grid0.Coords) (arg1 : Memref sig .tc .vmem S1x1x2000 .i32) (harg1 : arg1.IsWhole) (arg2 : Memref sig .tc .vmem S2000x256 .f32)
    (harg2 : arg2.IsWhole) (arg3 : Memref sig .tc .vmem S256x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x1 .f32) (harg6 : arg6.IsWhole)
    (arg7 : Memref sig .tc .vmem S512x256 .f32) (harg7 : arg7.IsWhole) (arg8 : Memref sig .tc .vmem S512x256 .f32) (harg8 : arg8.IsWhole)
    (arg9 : Memref sig .tc .smem S1 .f32) (harg9 : arg9.IsWhole) (hc0 : ¬cond0_0 i) (hc1 : ¬cond0_1 i) (x0 : Vec F S1x1x2000 .i32) (x1 : Vec F S2000x256 .f32)
    (x2 : Vec F S256x128 .f32) (x3 : Vec F S1x128 .f32) (x4 : Vec F S1x128 .f32) (x5 : Vec F S1x1 .f32) (xs0 : Vec F S512x256 .f32) (xs1 : Vec F S1 .f32) :
    sout0_B_0 c i arg1 harg1 arg2 harg2 arg3 harg3 arg4 harg4 arg5 harg5 arg6 harg6 arg7 harg7 arg8 harg8 arg9 harg9 hc0 hc1 x0 x1 x2 x3 x4 x5 xs0 xs1
      = k0_pay1 x1 (k0_pay6 x1 x2 x3 x4 x5 x0) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 x5 xs0 xs1)]
  unfold kernelRun0_B
  dsimp only
  try sl_unfold_words
  rw [View.canon_unit_zero off2]
  simp only [View.readAt_eq_ld, harg1.read_unread, harg2.read_unread, harg3.read_unread, harg4.read_unread, harg5.read_unread, harg6.read_unread, harg8.read_unread, harg9.read_unread]
  rw [View.ld_unit_zero (S := S2000x256) off2, View.ld_unit_zero (S := S256x128) off2, View.ld_unit_zero (S := S1x128) off2, View.ld_unit_zero (S := S1x128) off2, View.ld_unit_zero (S := S1x1) off2, View.ld_unit_zero (S := S1x1x2000) off3, View.ld_unit_zero (S := S512x256) off2]

/-- What the middle point leaves in the word. -/
theorem sout0_B_1_val (c : Dev nD) (i : grid0.Coords) (arg1 : Memref sig .tc .vmem S1x1x2000 .i32) (harg1 : arg1.IsWhole) (arg2 : Memref sig .tc .vmem S2000x256 .f32)
    (harg2 : arg2.IsWhole) (arg3 : Memref sig .tc .vmem S256x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x1 .f32) (harg6 : arg6.IsWhole)
    (arg7 : Memref sig .tc .vmem S512x256 .f32) (harg7 : arg7.IsWhole) (arg8 : Memref sig .tc .vmem S512x256 .f32) (harg8 : arg8.IsWhole)
    (arg9 : Memref sig .tc .smem S1 .f32) (harg9 : arg9.IsWhole) (hc0 : ¬cond0_0 i) (hc1 : ¬cond0_1 i) (x0 : Vec F S1x1x2000 .i32) (x1 : Vec F S2000x256 .f32)
    (x2 : Vec F S256x128 .f32) (x3 : Vec F S1x128 .f32) (x4 : Vec F S1x128 .f32) (x5 : Vec F S1x1 .f32) (xs0 : Vec F S512x256 .f32) (xs1 : Vec F S1 .f32) :
    sout0_B_1 c i arg1 harg1 arg2 harg2 arg3 harg3 arg4 harg4 arg5 harg5 arg6 harg6 arg7 harg7 arg8 harg8 arg9 harg9 hc0 hc1 x0 x1 x2 x3 x4 x5 xs0 xs1
      = fun _ => k0_pay5 x1 x2 x3 x4 x5 (xs1 wordIdx) := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 x4 x5 xs0 xs1)]
  unfold kernelRun0_B
  dsimp only
  try sl_unfold_words
  rw [View.canon_unit_zero off1]
  simp only [View.readAt_eq_ld, harg1.read_unread, harg2.read_unread, harg3.read_unread, harg4.read_unread, harg5.read_unread, harg6.read_unread, harg8.read_unread, harg9.read_unread]
  rw [View.ld_unit_zero (S := S2000x256) off2, View.ld_unit_zero (S := S256x128) off2, View.ld_unit_zero (S := S1x128) off2, View.ld_unit_zero (S := S1x128) off2, View.ld_unit_zero (S := S1x1) off2, View.ld_unit_zero (S := S1) off1, first_eq]
  rfl

/-- What the first point leaves in the accumulator. -/
theorem sout0_A_0_val (c : Dev nD) (i : grid0.Coords) (arg1 : Memref sig .tc .vmem S1x1x2000 .i32) (harg1 : arg1.IsWhole) (arg2 : Memref sig .tc .vmem S2000x256 .f32)
    (harg2 : arg2.IsWhole) (arg3 : Memref sig .tc .vmem S256x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x1 .f32) (harg6 : arg6.IsWhole)
    (arg7 : Memref sig .tc .vmem S512x256 .f32) (harg7 : arg7.IsWhole) (arg8 : Memref sig .tc .vmem S512x256 .f32) (harg8 : arg8.IsWhole)
    (arg9 : Memref sig .tc .smem S1 .f32) (harg9 : arg9.IsWhole) (hc0 : cond0_0 i) (hc1 : ¬cond0_1 i) (x0 : Vec F S1x1x2000 .i32) (x1 : Vec F S2000x256 .f32)
    (x2 : Vec F S256x128 .f32) (x3 : Vec F S1x128 .f32) (x4 : Vec F S1x128 .f32) (x5 : Vec F S1x1 .f32) :
    sout0_A_0 c i arg1 harg1 arg2 harg2 arg3 harg3 arg4 harg4 arg5 harg5 arg6 harg6 arg7 harg7 arg8 harg8 arg9 harg9 hc0 hc1 x0 x1 x2 x3 x4 x5
      = k0_pay1 x1 (k0_pay6 x1 x2 x3 x4 x5 x0) k0_pay3 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4 x5)]
  unfold kernelRun0_A
  dsimp only
  try sl_unfold_words
  rw [View.canon_cons_unit_zero (S := S512x256) off2]
  simp only [View.readAt_eq_ld, harg1.read_unread, harg2.read_unread, harg3.read_unread, harg4.read_unread, harg5.read_unread, harg6.read_unread]
  rw [View.ld_unit_zero (S := S2000x256) off2, View.ld_unit_zero (S := S256x128) off2, View.ld_unit_zero (S := S1x128) off2, View.ld_unit_zero (S := S1x128) off2, View.ld_unit_zero (S := S1x1) off2, View.ld_unit_zero (S := S1x1x2000) off3, View.readCov_unit_zero (S := S512x256) _ off2]

/-- What the first point leaves in the word. -/
theorem sout0_A_1_val (c : Dev nD) (i : grid0.Coords) (arg1 : Memref sig .tc .vmem S1x1x2000 .i32) (harg1 : arg1.IsWhole) (arg2 : Memref sig .tc .vmem S2000x256 .f32)
    (harg2 : arg2.IsWhole) (arg3 : Memref sig .tc .vmem S256x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x1 .f32) (harg6 : arg6.IsWhole)
    (arg7 : Memref sig .tc .vmem S512x256 .f32) (harg7 : arg7.IsWhole) (arg8 : Memref sig .tc .vmem S512x256 .f32) (harg8 : arg8.IsWhole)
    (arg9 : Memref sig .tc .smem S1 .f32) (harg9 : arg9.IsWhole) (hc0 : cond0_0 i) (hc1 : ¬cond0_1 i) (x0 : Vec F S1x1x2000 .i32) (x1 : Vec F S2000x256 .f32)
    (x2 : Vec F S256x128 .f32) (x3 : Vec F S1x128 .f32) (x4 : Vec F S1x128 .f32) (x5 : Vec F S1x1 .f32) :
    sout0_A_1 c i arg1 harg1 arg2 harg2 arg3 harg3 arg4 harg4 arg5 harg5 arg6 harg6 arg7 harg7 arg8 harg8 arg9 harg9 hc0 hc1 x0 x1 x2 x3 x4 x5
      = fun _ => k0_pay5 x1 x2 x3 x4 x5 (Scalar.ofBits .f32 0x00000000#32) := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3 x4 x5)]
  unfold kernelRun0_A
  dsimp only
  try sl_unfold_words
  rw [View.canon_cons_unit_zero (S := S1) off1]
  simp only [View.readAt_eq_ld, harg1.read_unread, harg2.read_unread, harg3.read_unread, harg4.read_unread, harg5.read_unread, harg6.read_unread]
  rw [View.ld_unit_zero (S := S2000x256) off2, View.ld_unit_zero (S := S256x128) off2, View.ld_unit_zero (S := S1x128) off2, View.ld_unit_zero (S := S1x128) off2, View.ld_unit_zero (S := S1x1) off2]
  rfl

/-- What the last point leaves in the accumulator. -/
theorem sout0_C_0_val (c : Dev nD) (i : grid0.Coords) (arg1 : Memref sig .tc .vmem S1x1x2000 .i32) (harg1 : arg1.IsWhole) (arg2 : Memref sig .tc .vmem S2000x256 .f32)
    (harg2 : arg2.IsWhole) (arg3 : Memref sig .tc .vmem S256x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x1 .f32) (harg6 : arg6.IsWhole)
    (arg7 : Memref sig .tc .vmem S512x256 .f32) (harg7 : arg7.IsWhole) (arg8 : Memref sig .tc .vmem S512x256 .f32) (harg8 : arg8.IsWhole)
    (arg9 : Memref sig .tc .smem S1 .f32) (harg9 : arg9.IsWhole) (hc0 : ¬cond0_0 i) (hc1 : cond0_1 i) (x0 : Vec F S1x1x2000 .i32) (x1 : Vec F S2000x256 .f32)
    (x2 : Vec F S256x128 .f32) (x3 : Vec F S1x128 .f32) (x4 : Vec F S1x128 .f32) (x5 : Vec F S1x1 .f32) (xs0 : Vec F S512x256 .f32) (xs1 : Vec F S1 .f32) :
    sout0_C_0 c i arg1 harg1 arg2 harg2 arg3 harg3 arg4 harg4 arg5 harg5 arg6 harg6 arg7 harg7 arg8 harg8 arg9 harg9 hc0 hc1 x0 x1 x2 x3 x4 x5 xs0 xs1
      = k0_pay1 x1 (k0_pay6 x1 x2 x3 x4 x5 x0) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  try sl_unfold_words
  rw [View.canon_unit_zero off2]
  simp only [View.readAt_eq_ld, harg1.read_unread, harg2.read_unread, harg3.read_unread, harg4.read_unread, harg5.read_unread, harg6.read_unread, harg8.read_unread, harg9.read_unread]
  rw [View.ld_unit_zero (S := S2000x256) off2, View.ld_unit_zero (S := S256x128) off2, View.ld_unit_zero (S := S1x128) off2, View.ld_unit_zero (S := S1x128) off2, View.ld_unit_zero (S := S1x1) off2, View.ld_unit_zero (S := S1x1x2000) off3, View.ld_unit_zero (S := S512x256) off2]

/-- What the last point leaves in the word. -/
theorem sout0_C_1_val (c : Dev nD) (i : grid0.Coords) (arg1 : Memref sig .tc .vmem S1x1x2000 .i32) (harg1 : arg1.IsWhole) (arg2 : Memref sig .tc .vmem S2000x256 .f32)
    (harg2 : arg2.IsWhole) (arg3 : Memref sig .tc .vmem S256x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x1 .f32) (harg6 : arg6.IsWhole)
    (arg7 : Memref sig .tc .vmem S512x256 .f32) (harg7 : arg7.IsWhole) (arg8 : Memref sig .tc .vmem S512x256 .f32) (harg8 : arg8.IsWhole)
    (arg9 : Memref sig .tc .smem S1 .f32) (harg9 : arg9.IsWhole) (hc0 : ¬cond0_0 i) (hc1 : cond0_1 i) (x0 : Vec F S1x1x2000 .i32) (x1 : Vec F S2000x256 .f32)
    (x2 : Vec F S256x128 .f32) (x3 : Vec F S1x128 .f32) (x4 : Vec F S1x128 .f32) (x5 : Vec F S1x1 .f32) (xs0 : Vec F S512x256 .f32) (xs1 : Vec F S1 .f32) :
    sout0_C_1 c i arg1 harg1 arg2 harg2 arg3 harg3 arg4 harg4 arg5 harg5 arg6 harg6 arg7 harg7 arg8 harg8 arg9 harg9 hc0 hc1 x0 x1 x2 x3 x4 x5 xs0 xs1
      = fun _ => k0_pay5 x1 x2 x3 x4 x5 (xs1 wordIdx) := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  try sl_unfold_words
  rw [View.canon_unit_zero off1]
  simp only [View.readAt_eq_ld, harg1.read_unread, harg2.read_unread, harg3.read_unread, harg4.read_unread, harg5.read_unread, harg6.read_unread, harg8.read_unread, harg9.read_unread]
  rw [View.ld_unit_zero (S := S2000x256) off2, View.ld_unit_zero (S := S256x128) off2, View.ld_unit_zero (S := S1x128) off2, View.ld_unit_zero (S := S1x128) off2, View.ld_unit_zero (S := S1x1) off2, View.ld_unit_zero (S := S1) off1, first_eq]
  rfl

/-- What the last point leaves in the output block. -/
theorem out0_C_6_val (c : Dev nD) (i : grid0.Coords) (arg1 : Memref sig .tc .vmem S1x1x2000 .i32) (harg1 : arg1.IsWhole) (arg2 : Memref sig .tc .vmem S2000x256 .f32)
    (harg2 : arg2.IsWhole) (arg3 : Memref sig .tc .vmem S256x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x1 .f32) (harg6 : arg6.IsWhole)
    (arg7 : Memref sig .tc .vmem S512x256 .f32) (harg7 : arg7.IsWhole) (arg8 : Memref sig .tc .vmem S512x256 .f32) (harg8 : arg8.IsWhole)
    (arg9 : Memref sig .tc .smem S1 .f32) (harg9 : arg9.IsWhole) (hc0 : ¬cond0_0 i) (hc1 : cond0_1 i) (x0 : Vec F S1x1x2000 .i32) (x1 : Vec F S2000x256 .f32)
    (x2 : Vec F S256x128 .f32) (x3 : Vec F S1x128 .f32) (x4 : Vec F S1x128 .f32) (x5 : Vec F S1x1 .f32) (xs0 : Vec F S512x256 .f32) (xs1 : Vec F S1 .f32) :
    out0_C_6 c i arg1 harg1 arg2 harg2 arg3 harg3 arg4 harg4 arg5 harg5 arg6 harg6 arg7 harg7 arg8 harg8 arg9 harg9 hc0 hc1 x0 x1 x2 x3 x4 x5 xs0 xs1
      = k0_pay2 (k0_pay1 x1 (k0_pay6 x1 x2 x3 x4 x5 x0) xs0) (k0_pay5 x1 x2 x3 x4 x5 (xs1 wordIdx)) := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  try sl_unfold_words
  rw [View.canon_unit_zero off2]
  simp only [View.readAt_eq_ld, harg1.read_unread, harg2.read_unread, harg3.read_unread, harg4.read_unread, harg5.read_unread, harg6.read_unread, harg8.read_unread, harg9.read_unread]
  rw [View.readCov_unit_zero (S := S512x256) _ off2, View.ld_unit_zero (S := S2000x256) off2, View.ld_unit_zero (S := S256x128) off2, View.ld_unit_zero (S := S1x128) off2, View.ld_unit_zero (S := S1x128) off2, View.ld_unit_zero (S := S1x1) off2, View.ld_unit_zero (S := S1x1x2000) off3, View.ld_unit_zero (S := S512x256) off2, View.ld_unit_zero (S := S1) off1, first_eq]

end Cert.KernelIdeal.Cases

end
-- ==== Proof.Blocks.lean ====
/-
  The six input blocks of a grid point, read off the arguments as launched: point `t` reads rows `2000 t` on of the node
  rows and of the segment words, and all of each weight.
-/
module

public import proofs.«01_k».proof.Proof.Gen.KernelIdeal.Frame.Runs
public import Idealize.ShloMosaic.Lib.Pointwise
public import Idealize.ShloMosaic.Lib.Pipeline.Value
public import Idealize.ShloMosaic.Lib.StableHlo.Run

@[expose] public section

set_option maxRecDepth 16384

noncomputable section

namespace Cert.KernelIdeal.Blocks

open Cert.KernelIdeal.Gen Idealize.ShloMosaic Idealize.SL.Sem

variable {F : FTy → Type} [FloatOps F] (m : (ℓ : Loc nD τ sig) → Buf (Elt F) ℓ) (c : Dev nD)

/-- The segment words as the grid reads them: the argument in 25 rows of 2000. -/
theorem V_v0 : V m c main_v0 = shapeCast S25x1x2000 (m ((c.tc : Thread nD τ).loc main_arg1) : Vec F S50000 .i32) shapeCasts_S50000_S25x1x2000 := by
  show StableHlo.after hostOps0 (fun b => m (c, b)) (Proc.devRef .tc main_v0) = _
  after_results
  rfl

/-- The first bias as the grid reads it: the argument as one row. -/
theorem V_v1 : V m c main_v1 = shapeCast S1x128 (m ((c.tc : Thread nD τ).loc main_arg3) : Vec F S128 .f32) shapeCasts_S128_S1x128 := by
  show StableHlo.after hostOps0 (fun b => m (c, b)) (Proc.devRef .tc main_v1) = _
  after_results
  rfl

/-- The second weight as the grid reads it: the argument's column as one row. -/
theorem V_v2 : V m c main_v2 = shapeCast S1x128 (m ((c.tc : Thread nD τ).loc main_arg4) : Vec F S128x1 .f32) shapeCasts_S128x1_S1x128 := by
  show StableHlo.after hostOps0 (fun b => m (c, b)) (Proc.devRef .tc main_v2) = _
  after_results
  rfl

/-- The second bias as the grid reads it: the argument as one cell. -/
theorem V_v3 : V m c main_v3 = shapeCast S1x1 (m ((c.tc : Thread nD τ).loc main_arg5) : Vec F S1 .f32) shapeCasts_S1_S1x1 := by
  show StableHlo.after hostOps0 (fun b => m (c, b)) (Proc.devRef .tc main_v3) = _
  after_results
  rfl

/-- The segment words' block index at point `t`. -/
theorem index0 (t : Fin cfg0.N) : win0_0.index t 0 = t.val ∧ win0_0.index t 1 = 0 ∧ win0_0.index t 2 = 0 := by
  revert t
  decide +kernel

/-- The block's first row at point `t`. -/
theorem index1 (t : Fin cfg0.N) : win0_1.index t 0 = t.val ∧ win0_1.index t 1 = 0 := by
  revert t
  decide +kernel

/-- Point `t`'s block of node rows. -/
theorem iblk1_apply (t : Fin cfg0.N) (r : Fin 2000) (d : Fin 256) (h : 2000 * t.val + r.val < 50000) :
    (iblk m c 1 t : Vec F S2000x256 .f32) (ix2 r d) = (m ((c.tc : Thread nD τ).loc main_arg0) : Vec F S50000x256 .f32) (ix2 ⟨2000 * t.val + r.val, h⟩ d) := by
  unfold iblk
  rw [View.read_apply]
  show V m c main_arg0 _ = _
  rw [V_main_arg0]
  congr 1
  funext a
  apply Fin.ext
  match a with
  | ⟨0, _⟩ =>
    show win0_1.index t 0 * 2000 + 1 * r.val = 2000 * t.val + r.val
    rw [(index1 t).1]; omega
  | ⟨1, _⟩ =>
    show win0_1.index t 1 * 256 + 1 * d.val = d.val
    rw [(index1 t).2]; omega

/-- Point `t`'s block of segment words. -/
theorem iblk0_apply (t : Fin cfg0.N) (r : Fin 2000) (h : 2000 * t.val + r.val < 50000) :
    (iblk m c 0 t : Vec F S1x1x2000 .i32) (ix3 0 0 r) = (m ((c.tc : Thread nD τ).loc main_arg1) : Vec F S50000 .i32) (ix1 ⟨2000 * t.val + r.val, h⟩) := by
  have ht : t.val < 25 := by have := r.isLt; omega
  have e : (shapeCast S25x1x2000 (m ((c.tc : Thread nD τ).loc main_arg1) : Vec F S50000 .i32) shapeCasts_S50000_S25x1x2000) (ix3 ⟨t.val, ht⟩ 0 r)
      = (m ((c.tc : Thread nD τ).loc main_arg1) : Vec F S50000 .i32) (ix1 ⟨2000 * t.val + r.val, h⟩) := by
    pointwise
    exact congrArg (fun q => (m ((c.tc : Thread nD τ).loc main_arg1) : Vec F S50000 .i32) (ix1 q))
      (Fin.ext (by show t.val * 2000 + r.val = 2000 * t.val + r.val; omega))
  rw [← e, ← V_v0]
  unfold iblk
  rw [View.read_apply]
  show V m c main_v0 _ = _
  congr 1
  funext a
  apply Fin.ext
  match a with
  | ⟨0, _⟩ =>
    show win0_0.index t 0 * 1 + 1 * 0 = t.val
    rw [(index0 t).1]; omega
  | ⟨1, _⟩ =>
    show win0_0.index t 1 * 1 + 1 * 0 = 0
    rw [(index0 t).2.1]
  | ⟨2, _⟩ =>
    show win0_0.index t 2 * 2000 + 1 * r.val = r.val
    rw [(index0 t).2.2]; omega

/-- A weight window's block index is zero at every point. -/
theorem index2 (t : Fin cfg0.N) : win0_2.index t 0 = 0 ∧ win0_2.index t 1 = 0 := by
  revert t
  decide +kernel

/-- A weight window's block index is zero at every point. -/
theorem index3 (t : Fin cfg0.N) : win0_3.index t 0 = 0 ∧ win0_3.index t 1 = 0 := by
  revert t
  decide +kernel

/-- A weight window's block index is zero at every point. -/
theorem index4 (t : Fin cfg0.N) : win0_4.index t 0 = 0 ∧ win0_4.index t 1 = 0 := by
  revert t
  decide +kernel

/-- A weight window's block index is zero at every point. -/
theorem index5 (t : Fin cfg0.N) : win0_5.index t 0 = 0 ∧ win0_5.index t 1 = 0 := by
  revert t
  decide +kernel

/-- Every point reads the whole first weight. -/
theorem iblk2_eq (t : Fin cfg0.N) : (iblk m c 2 t : Vec F S256x128 .f32) = V m c main_arg2 := by
  funext j
  unfold iblk
  rw [View.read_apply]
  show V m c main_arg2 _ = _
  congr 1
  funext a
  apply Fin.ext
  match a with
  | ⟨0, _⟩ =>
    show win0_2.index t 0 * 256 + 1 * (j 0).val = (j 0).val
    rw [(index2 t).1]; omega
  | ⟨1, _⟩ =>
    show win0_2.index t 1 * 128 + 1 * (j 1).val = (j 1).val
    rw [(index2 t).2]; omega

/-- Every point reads the whole first bias. -/
theorem iblk3_eq (t : Fin cfg0.N) : (iblk m c 3 t : Vec F S1x128 .f32) = V m c main_v1 := by
  funext j
  unfold iblk
  rw [View.read_apply]
  show V m c main_v1 _ = _
  congr 1
  funext a
  apply Fin.ext
  match a with
  | ⟨0, _⟩ =>
    show win0_3.index t 0 * 1 + 1 * (j 0).val = (j 0).val
    rw [(index3 t).1]; omega
  | ⟨1, _⟩ =>
    show win0_3.index t 1 * 128 + 1 * (j 1).val = (j 1).val
    rw [(index3 t).2]; omega

/-- Every point reads the whole second weight. -/
theorem iblk4_eq (t : Fin cfg0.N) : (iblk m c 4 t : Vec F S1x128 .f32) = V m c main_v2 := by
  funext j
  unfold iblk
  rw [View.read_apply]
  show V m c main_v2 _ = _
  congr 1
  funext a
  apply Fin.ext
  match a with
  | ⟨0, _⟩ =>
    show win0_4.index t 0 * 1 + 1 * (j 0).val = (j 0).val
    rw [(index4 t).1]; omega
  | ⟨1, _⟩ =>
    show win0_4.index t 1 * 128 + 1 * (j 1).val = (j 1).val
    rw [(index4 t).2]; omega

/-- Every point reads the second bias. -/
theorem iblk5_eq (t : Fin cfg0.N) : (iblk m c 5 t : Vec F S1x1 .f32) = V m c main_v3 := by
  funext j
  unfold iblk
  rw [View.read_apply]
  show V m c main_v3 _ = _
  congr 1
  funext a
  apply Fin.ext
  match a with
  | ⟨0, _⟩ =>
    show win0_5.index t 0 * 1 + 1 * (j 0).val = (j 0).val
    rw [(index5 t).1]; omega
  | ⟨1, _⟩ =>
    show win0_5.index t 1 * 1 + 1 * (j 1).val = (j 1).val
    rw [(index5 t).2]; omega

/-- The first weight a point reads is the argument. -/
theorem iblk2_apply (t : Fin cfg0.N) (d : Fin 256) (k : Fin 128) :
    (iblk m c 2 t : Vec F S256x128 .f32) (ix2 d k) = (m ((c.tc : Thread nD τ).loc main_arg2) : Vec F S256x128 .f32) (ix2 d k) := by
  rw [iblk2_eq, V_main_arg2]

/-- The first bias a point reads, at unit `k`. -/
theorem iblk3_apply (t : Fin cfg0.N) (k : Fin 128) :
    (iblk m c 3 t : Vec F S1x128 .f32) (ix2 0 k) = (m ((c.tc : Thread nD τ).loc main_arg3) : Vec F S128 .f32) (ix1 k) := by
  rw [iblk3_eq, V_v1]
  pointwise

/-- The second weight a point reads, at unit `k`. -/
theorem iblk4_apply (t : Fin cfg0.N) (k : Fin 128) :
    (iblk m c 4 t : Vec F S1x128 .f32) (ix2 0 k) = (m ((c.tc : Thread nD τ).loc main_arg4) : Vec F S128x1 .f32) (ix2 k 0) := by
  rw [iblk4_eq, V_v2]
  pointwise

/-- The second bias a point reads. -/
theorem iblk5_apply (t : Fin cfg0.N) :
    (iblk m c 5 t : Vec F S1x1 .f32) (ix2 0 0) = (m ((c.tc : Thread nD τ).loc main_arg5) : Vec F S1 .f32) (ix1 0) := by
  rw [iblk5_eq, V_v3]
  pointwise

end Cert.KernelIdeal.Blocks

end
-- ==== Proof.Payloads.lean ====
/-
  The kernel's stored values read at an index, at exact arithmetic: one grid point's scores and exponentials, its masked
  exponentials, its contribution to the accumulator, the zero the accumulator starts from, its sum, and the last division.
-/
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Payloads

open Cert.KernelIdeal.Gen Idealize.ShloMosaic

/-- The exponential of the score of row `r` of a block. -/
theorem pay4_apply (x : Vec Ideal S2000x256 .f32) (w1 : Vec Ideal S256x128 .f32) (b1 w2 : Vec Ideal S1x128 .f32) (b2 : Vec Ideal S1x1 .f32) (r : Fin 2000) :
    k0_pay4 x w1 b1 w2 b2 (ix2 0 r)
      = Ideal.exp ((∑ k : Fin 128, w2 (ix2 0 k) * Ideal.tanh ((∑ d : Fin 256, x (ix2 r d) * w1 (ix2 d k)) + b1 (ix2 0 k))) + b2 (ix2 0 0)) := by
  pointwise [k0_pay4]

/-- The masked exponential at segment `g` and row `r` of a block: the exponential where the row's segment is `g`. -/
theorem pay6_apply (x : Vec Ideal S2000x256 .f32) (w1 : Vec Ideal S256x128 .f32) (b1 w2 : Vec Ideal S1x128 .f32) (b2 : Vec Ideal S1x1 .f32)
    (b : Vec Ideal S1x1x2000 .i32) (g : Fin 512) (r : Fin 2000) :
    k0_pay6 x w1 b1 w2 b2 b (ix2 g r) = if BitVec.ofNat 32 g.val = b (ix3 0 0 r) then k0_pay4 x w1 b1 w2 b2 (ix2 0 r) else 0 := by
  pointwise [k0_pay6]
  rw [WordCmp.cmpi_eq_eq, WordCmp.select_decide]

/-- The accumulator after a point: the accumulator before it plus the masked exponentials' product with the rows. -/
theorem pay1_apply (x : Vec Ideal S2000x256 .f32) (p : FVec Ideal S512x2000 .f32) (a : Vec Ideal S512x256 .f32) (g : Fin 512) (d : Fin 256) :
    k0_pay1 x p a (ix2 g d) = a (ix2 g d) + ∑ r : Fin 2000, p (ix2 g r) * x (ix2 r d) := by
  pointwise [k0_pay1]

/-- The accumulator starts at zero. -/
theorem pay3_apply (g : Fin 512) (d : Fin 256) : k0_pay3 (F := Ideal) (ix2 g d) = 0 := by
  pointwise [k0_pay3]

/-- The sum of exponentials after a point: the sum before it plus the point's exponentials. -/
theorem pay5_apply (x : Vec Ideal S2000x256 .f32) (w1 : Vec Ideal S256x128 .f32) (b1 w2 : Vec Ideal S1x128 .f32) (b2 : Vec Ideal S1x1 .f32) (z : EReal) :
    k0_pay5 x w1 b1 w2 b2 z = z + ∑ r : Fin 2000, k0_pay4 x w1 b1 w2 b2 (ix2 0 r) := by
  pointwise [k0_pay5]
  rw [Fin.sum_univ_one]

/-- The output: the accumulator divided by the sum of exponentials. -/
theorem pay2_apply (a : Vec Ideal S512x256 .f32) (z : EReal) (g : Fin 512) (d : Fin 256) :
    k0_pay2 (F := Ideal) a z (ix2 g d) = Ideal.div (a (ix2 g d)) z := by
  pointwise [k0_pay2]

end Cert.KernelIdeal.Payloads

end
-- ==== Proof.PoolAlgebra.lean ====
/-
  Extended-real facts behind the pooling: a sum of rows weighted by a softmax equals the sum of the rows weighted by
  plain exponentials, divided once at the end by the sum of the exponentials. The scores are real numbers; the rows may
  hold any extended reals. Nothing here names a program.
-/
module

public import Idealize.ShloMosaic.PureOps.Ideal.Laws
public import Mathlib.Algebra.BigOperators.Fin

@[expose] public section

noncomputable section

namespace Cert.Pool

open Idealize.ShloMosaic

/-- A finite sum of real numbers, read in the extended reals, is the real sum. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A real factor that is not negative goes inside a finite sum of extended reals. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.2 hr) (EReal.coe_ne_top r), ih]

/-- Division of an extended real by a nonzero real is multiplication by the real inverse. -/
theorem div_coe (x : EReal) {r : ℝ} (hr : r ≠ 0) : Ideal.div x (r : EReal) = x * ((r⁻¹ : ℝ) : EReal) := by
  unfold Ideal.div
  rw [if_neg (by simpa using hr), EReal.coe_inv]

/-- The exponential of a real number is the real exponential. -/
theorem exp_coe (r : ℝ) : Ideal.exp (r : EReal) = ((Real.exp r : ℝ) : EReal) := rfl

/-- The hyperbolic tangent of any extended real is a real number. -/
theorem tanh_real (x : EReal) : ∃ r : ℝ, Ideal.tanh x = (r : EReal) := by
  induction x using EReal.rec with
  | bot => exact ⟨-1, by rw [EReal.coe_neg, EReal.coe_one]; rfl⟩
  | coe r => exact ⟨Real.tanh r, rfl⟩
  | top => exact ⟨1, by rw [EReal.coe_one]; rfl⟩

/-- An extended real whose absolute value is below `⊤` is a real number. -/
theorem real_of_abs_lt_top {x : EReal} (h : max x (-x) < ⊤) : ∃ r : ℝ, x = (r : EReal) := by
  induction x using EReal.rec with
  | bot => simp at h
  | coe r => exact ⟨r, rfl⟩
  | top => simp at h

/-- A product sum of real numbers plus a real number is a real number. -/
theorem real_of_sum_mul_add {ι : Type} [Fintype ι] (f g : ι → EReal) (b : EReal) (hf : ∀ i, ∃ r : ℝ, f i = (r : EReal))
    (hg : ∀ i, ∃ r : ℝ, g i = (r : EReal)) (hb : ∃ r : ℝ, b = (r : EReal)) : ∃ r : ℝ, (∑ i, f i * g i) + b = (r : EReal) := by
  choose f' hf' using hf
  choose g' hg' using hg
  obtain ⟨b', hb'⟩ := hb
  refine ⟨(∑ i, f' i * g' i) + b', ?_⟩
  rw [EReal.coe_add, coe_sum, hb']
  congr 1
  exact Finset.sum_congr rfl fun i _ => by rw [hf', hg', EReal.coe_mul]

/-- The maximum of a nonempty finite family of real numbers, folded from `⊥`, is a real number. -/
theorem fold_max_real {ι : Type} [Fintype ι] [Nonempty ι] (s : ι → ℝ) :
    ∃ r : ℝ, (Finset.univ.fold max (⊥ : EReal) fun i => (s i : EReal)) = (r : EReal) := by
  obtain ⟨i, _, hi⟩ := Finset.exists_max_image (Finset.univ : Finset ι) s Finset.univ_nonempty
  refine ⟨s i, le_antisymm ?_ ?_⟩
  · rw [Finset.fold_max_le]
    exact ⟨bot_le, fun j hj => EReal.coe_le_coe_iff.2 (hi j hj)⟩
  · rw [Finset.le_fold_max]
    exact Or.inr ⟨i, Finset.mem_univ i, le_refl _⟩

/-- One softmax weight, shifted by any real `M` before the exponentials, is the plain exponential over the plain sum. -/
theorem softmax_shift {ι : Type} [Fintype ι] [Nonempty ι] (s : ι → ℝ) (M : ℝ) (n : ι) :
    Ideal.div (Ideal.exp ((s n : EReal) - (M : EReal))) (∑ k, Ideal.exp ((s k : EReal) - (M : EReal)))
      = ((Real.exp (s n) * (∑ k, Real.exp (s k))⁻¹ : ℝ) : EReal) := by
  have hpos : 0 < ∑ k, Real.exp (s k - M) := Finset.sum_pos (fun k _ => Real.exp_pos _) Finset.univ_nonempty
  have hpos' : 0 < ∑ k, Real.exp (s k) := Finset.sum_pos (fun k _ => Real.exp_pos _) Finset.univ_nonempty
  have hz : (∑ k, Ideal.exp ((s k : EReal) - (M : EReal))) = ((∑ k, Real.exp (s k - M) : ℝ) : EReal) := by
    rw [coe_sum]
    exact Finset.sum_congr rfl fun k _ => by rw [← EReal.coe_sub, exp_coe]
  rw [hz, ← EReal.coe_sub, exp_coe, div_coe _ hpos.ne', ← EReal.coe_mul]
  congr 1
  have hs : (∑ k, Real.exp (s k - M)) = (∑ k, Real.exp (s k)) * (Real.exp M)⁻¹ := by
    rw [Finset.sum_mul]
    exact Finset.sum_congr rfl fun k _ => by rw [Real.exp_sub, div_eq_mul_inv]
  rw [hs, Real.exp_sub]
  have hM := (Real.exp_pos M).ne'
  field_simp

/-- Rows `x n` chosen by `p` and weighted by the exponentials of real scores, summed and divided once by the sum of all
    the exponentials, are the chosen rows weighted by the softmax of the scores shifted by any real `M`. -/
theorem pool_eq {ι : Type} [Fintype ι] [Nonempty ι] (s : ι → ℝ) (M : ℝ) (p : ι → Prop) [DecidablePred p] (x : ι → EReal) :
    Ideal.div (∑ n, (if p n then Ideal.exp (s n : EReal) else 0) * x n) (∑ n, Ideal.exp (s n : EReal))
      = ∑ n, if p n then x n * Ideal.div (Ideal.exp ((s n : EReal) - (M : EReal))) (∑ k, Ideal.exp ((s k : EReal) - (M : EReal))) else 0 := by
  have hpos : 0 < ∑ k, Real.exp (s k) := Finset.sum_pos (fun k _ => Real.exp_pos _) Finset.univ_nonempty
  have hz : (∑ n, Ideal.exp (s n : EReal)) = ((∑ k, Real.exp (s k) : ℝ) : EReal) := by
    rw [coe_sum]
    exact Finset.sum_congr rfl fun k _ => exp_coe _
  rw [hz, div_coe _ hpos.ne', sum_mul_coe _ _ (inv_nonneg.2 hpos.le)]
  refine Finset.sum_congr rfl fun n _ => ?_
  rw [softmax_shift]
  by_cases h : p n
  · rw [if_pos h, if_pos h, exp_coe, EReal.coe_mul, mul_comm _ (x n), mul_assoc]
  · rw [if_neg h, if_neg h, zero_mul, zero_mul]

/-- A sum over `T` blocks of `B` places each, the places numbered on, is the sum over all `T * B` places. -/
theorem sum_blocks (T B : ℕ) (f : ℕ → EReal) :
    (∑ t ∈ Finset.range T, ∑ j : Fin B, f (B * t + j.val)) = ∑ n : Fin (T * B), f n.val := by
  rw [Finset.sum_range, ← (finProdFinEquiv (m := T) (n := B)).sum_comp (fun n => f n.val), Fintype.sum_prod_type]
  refine Finset.sum_congr rfl fun t _ => Finset.sum_congr rfl fun j _ => ?_
  rw [finProdFinEquiv_apply_val, Nat.add_comm]

end Cert.Pool

end
-- ==== Proof.PoolSpec.lean ====
/-
  What both programs compute, as a function of the six arguments: the score of a node, and the pooled rows — the rows of
  each segment weighted by the exponentials of the scores, divided by the sum of all the exponentials.
-/
module

public import Idealize.ShloMosaic.Lib.Pointwise

@[expose] public section

noncomputable section

namespace Cert.Pool

open Idealize.ShloMosaic

/-- The score of node `n`: a hidden layer with `tanh`, then a weighted sum and a bias. -/
def score (x : FVec Ideal ⟨2, ![50000, 256]⟩ .f32) (w1 : FVec Ideal ⟨2, ![256, 128]⟩ .f32) (b1 : FVec Ideal ⟨1, ![128]⟩ .f32)
    (w2 : FVec Ideal ⟨2, ![128, 1]⟩ .f32) (b2 : FVec Ideal ⟨1, ![1]⟩ .f32) (n : Fin 50000) : EReal :=
  (∑ k : Fin 128, Ideal.tanh ((∑ d : Fin 256, x (ix2 n d) * w1 (ix2 d k)) + b1 (ix1 k)) * w2 (ix2 k 0)) + b2 (ix1 0)

/-- Node `n`'s contribution to column `d` of segment `g`, before the division. -/
def part (x : FVec Ideal ⟨2, ![50000, 256]⟩ .f32) (b : IVec ⟨1, ![50000]⟩ 32) (w1 : FVec Ideal ⟨2, ![256, 128]⟩ .f32)
    (b1 : FVec Ideal ⟨1, ![128]⟩ .f32) (w2 : FVec Ideal ⟨2, ![128, 1]⟩ .f32) (b2 : FVec Ideal ⟨1, ![1]⟩ .f32) (g : Fin 512) (d : Fin 256)
    (n : Fin 50000) : EReal :=
  (if BitVec.ofNat 32 g.val = b (ix1 n) then Ideal.exp (score x w1 b1 w2 b2 n) else 0) * x (ix2 n d)

/-- Column `d` of segment `g` of the result. -/
def pooled (x : FVec Ideal ⟨2, ![50000, 256]⟩ .f32) (b : IVec ⟨1, ![50000]⟩ 32) (w1 : FVec Ideal ⟨2, ![256, 128]⟩ .f32)
    (b1 : FVec Ideal ⟨1, ![128]⟩ .f32) (w2 : FVec Ideal ⟨2, ![128, 1]⟩ .f32) (b2 : FVec Ideal ⟨1, ![1]⟩ .f32) (g : Fin 512) (d : Fin 256) : EReal :=
  Ideal.div (∑ n, part x b w1 b1 w2 b2 g d n) (∑ n, Ideal.exp (score x w1 b1 w2 b2 n))

/-- A function on the nodes continued by zero past the last node. -/
def cont (f : Fin 50000 → EReal) (n : ℕ) : EReal := if h : n < 50000 then f ⟨n, h⟩ else 0

/-- At a node the continued function is the function. -/
theorem cont_of_lt (f : Fin 50000 → EReal) {n : ℕ} (h : n < 50000) : cont f n = f ⟨n, h⟩ := dif_pos h

end Cert.Pool

end
-- ==== Proof.KernelValue.lean ====
/-
  The kernel's result as a function of its arguments: each grid point adds its 2000 rows' masked product to the
  accumulator and its exponentials to the word, so after the last point the two hold the sums over all 50000 nodes, and
  the output is their quotient.
-/
module

public import proofs.«01_k».proof.Proof.Cases
public import proofs.«01_k».proof.Proof.Blocks
public import proofs.«01_k».proof.Proof.Payloads
public import proofs.«01_k».proof.Proof.PoolAlgebra
public import proofs.«01_k».proof.Proof.PoolSpec
public import proofs.«01_k».proof.Proof.Gen.KernelIdeal.Value

@[expose] public section

set_option maxRecDepth 16384

noncomputable section

namespace Cert.KernelIdeal.KernelValue

open Cert.KernelIdeal.Gen Cert.KernelIdeal.Cases Cert.KernelIdeal.Blocks Cert.KernelIdeal.Payloads Idealize.ShloMosaic Idealize.SL.Sem

section Any

variable {F : FTy → Type} [FloatOps F] (m : (ℓ : Loc nD τ sig) → Buf (Elt F) ℓ) (c : Dev nD)

/-- The accumulator after the first point. -/
theorem acc_first (h : 0 < cfg0.N) :
    (outsAt0 m c 0 h).2.1 = k0_pay1 (iblk m c 1 ⟨0, h⟩) (k0_pay6 (iblk m c 1 ⟨0, h⟩) (iblk m c 2 ⟨0, h⟩) (iblk m c 3 ⟨0, h⟩) (iblk m c 4 ⟨0, h⟩) (iblk m c 5 ⟨0, h⟩) (iblk m c 0 ⟨0, h⟩)) k0_pay3 := by
  rw [outsAt0_A m c ⟨0, h⟩ (show 0 % 25 = 0 by decide) (show ¬0 % 25 = 24 by decide)]
  dsimp only
  exact sout0_A_0_val (F := F) ..

/-- The word after the first point. -/
theorem word_first (h : 0 < cfg0.N) :
    (outsAt0 m c 0 h).2.2 wordIdx = k0_pay5 (iblk m c 1 ⟨0, h⟩) (iblk m c 2 ⟨0, h⟩) (iblk m c 3 ⟨0, h⟩) (iblk m c 4 ⟨0, h⟩) (iblk m c 5 ⟨0, h⟩) (Scalar.ofBits .f32 0x00000000#32) := by
  rw [outsAt0_A m c ⟨0, h⟩ (show 0 % 25 = 0 by decide) (show ¬0 % 25 = 24 by decide)]
  dsimp only
  exact congrFun (sout0_A_1_val (F := F) ..) wordIdx

/-- The accumulator after a later point. -/
theorem acc_succ (n : ℕ) (h : n + 1 < cfg0.N) :
    (outsAt0 m c (n + 1) h).2.1 = k0_pay1 (iblk m c 1 ⟨n + 1, h⟩) (k0_pay6 (iblk m c 1 ⟨n + 1, h⟩) (iblk m c 2 ⟨n + 1, h⟩) (iblk m c 3 ⟨n + 1, h⟩) (iblk m c 4 ⟨n + 1, h⟩) (iblk m c 5 ⟨n + 1, h⟩) (iblk m c 0 ⟨n + 1, h⟩)) (outsAt0 m c n (Nat.lt_of_succ_lt h)).2.1 := by
  have hN : n + 1 < 25 := lt_of_lt_of_eq h N_0
  have h0 : ¬(n + 1) % 25 = 0 := by omega
  by_cases h1 : (n + 1) % 25 = 24
  · rw [outsAt0_C m c ⟨n + 1, h⟩ h0 h1]
    dsimp only
    exact sout0_C_0_val (F := F) ..
  · rw [outsAt0_B m c ⟨n + 1, h⟩ h0 h1]
    dsimp only
    exact sout0_B_0_val (F := F) ..

/-- The word after a later point. -/
theorem word_succ (n : ℕ) (h : n + 1 < cfg0.N) :
    (outsAt0 m c (n + 1) h).2.2 wordIdx = k0_pay5 (iblk m c 1 ⟨n + 1, h⟩) (iblk m c 2 ⟨n + 1, h⟩) (iblk m c 3 ⟨n + 1, h⟩) (iblk m c 4 ⟨n + 1, h⟩) (iblk m c 5 ⟨n + 1, h⟩) ((outsAt0 m c n (Nat.lt_of_succ_lt h)).2.2 wordIdx) := by
  have hN : n + 1 < 25 := lt_of_lt_of_eq h N_0
  have h0 : ¬(n + 1) % 25 = 0 := by omega
  by_cases h1 : (n + 1) % 25 = 24
  · rw [outsAt0_C m c ⟨n + 1, h⟩ h0 h1]
    dsimp only
    exact congrFun (sout0_C_1_val (F := F) ..) wordIdx
  · rw [outsAt0_B m c ⟨n + 1, h⟩ h0 h1]
    dsimp only
    exact congrFun (sout0_B_1_val (F := F) ..) wordIdx

/-- The output block after the last point: the accumulator over the word. -/
theorem out_succ (n : ℕ) (h : n + 1 < cfg0.N) (h1 : (n + 1) % 25 = 24) :
    (outsAt0 m c (n + 1) h).1 = k0_pay2 (outsAt0 m c (n + 1) h).2.1 ((outsAt0 m c (n + 1) h).2.2 wordIdx) := by
  have h0 : ¬(n + 1) % 25 = 0 := by omega
  rw [acc_succ, word_succ, outsAt0_C m c ⟨n + 1, h⟩ h0 h1]
  dsimp only
  exact out0_C_6_val (F := F) ..

/-- The result: the accumulator after the last point over the word after it. -/
theorem result_eq (h : 23 + 1 < cfg0.N) :
    Value.G6 m c = k0_pay2 (outsAt0 m c (23 + 1) h).2.1 ((outsAt0 m c (23 + 1) h).2.2 wordIdx) := by
  rw [Value.G6_last, ← out_succ m c 23 h (by decide), Value.outsAt0_sweep m c (23 + 1) h]

end Any

variable (m : (ℓ : Loc nD τ sig) → Buf (Elt Ideal) ℓ) (c : Dev nD)

/-- The node rows as launched. -/
abbrev X : FVec Ideal S50000x256 .f32 := m ((c.tc : Thread nD τ).loc main_arg0)
/-- The segment words as launched. -/
abbrev B : IVec S50000 32 := m ((c.tc : Thread nD τ).loc main_arg1)
/-- The first weight as launched. -/
abbrev W1 : FVec Ideal S256x128 .f32 := m ((c.tc : Thread nD τ).loc main_arg2)
/-- The first bias as launched. -/
abbrev B1 : FVec Ideal S128 .f32 := m ((c.tc : Thread nD τ).loc main_arg3)
/-- The second weight as launched. -/
abbrev W2 : FVec Ideal S128x1 .f32 := m ((c.tc : Thread nD τ).loc main_arg4)
/-- The second bias as launched. -/
abbrev B2 : FVec Ideal S1 .f32 := m ((c.tc : Thread nD τ).loc main_arg5)

/-- The exponential of a node's score. -/
abbrev expScore (n : Fin 50000) : EReal := Ideal.exp (Pool.score (X m c) (W1 m c) (B1 m c) (W2 m c) (B2 m c) n)
/-- A node's contribution to one column of one segment. -/
abbrev part (g : Fin 512) (d : Fin 256) (n : Fin 50000) : EReal := Pool.part (X m c) (B m c) (W1 m c) (B1 m c) (W2 m c) (B2 m c) g d n

/-- Row `r` of point `t`'s block is a node. -/
theorem row_lt (t : Fin cfg0.N) (r : Fin 2000) : 2000 * t.val + r.val < 50000 := by
  have h : t.val < 25 := lt_of_lt_of_eq t.isLt N_0
  omega

/-- Point `t`'s exponentials are its nodes'. -/
theorem pay4_node (t : Fin cfg0.N) (r : Fin 2000) :
    k0_pay4 (iblk m c 1 t) (iblk m c 2 t) (iblk m c 3 t) (iblk m c 4 t) (iblk m c 5 t) (ix2 0 r) = Pool.cont (expScore m c) (2000 * t.val + r.val) := by
  rw [Pool.cont_of_lt _ (row_lt t r), pay4_apply, iblk5_apply]
  unfold expScore Pool.score
  refine congrArg Ideal.exp (congrArg (· + _) (Finset.sum_congr rfl fun k _ => ?_))
  rw [iblk4_apply, iblk3_apply, mul_comm]
  refine congrArg (· * _) (congrArg Ideal.tanh (congrArg (· + _) (Finset.sum_congr rfl fun d _ => ?_)))
  rw [iblk1_apply m c t r d (row_lt t r), iblk2_apply]

/-- Point `t`'s masked exponentials times its rows are its nodes' contributions. -/
theorem pay6_node (t : Fin cfg0.N) (g : Fin 512) (d : Fin 256) (r : Fin 2000) :
    k0_pay6 (iblk m c 1 t) (iblk m c 2 t) (iblk m c 3 t) (iblk m c 4 t) (iblk m c 5 t) (iblk m c 0 t) (ix2 g r) * (iblk m c 1 t : Vec Ideal S2000x256 .f32) (ix2 r d)
      = Pool.cont (part m c g d) (2000 * t.val + r.val) := by
  rw [pay6_apply, pay4_node, Pool.cont_of_lt _ (row_lt t r), Pool.cont_of_lt _ (row_lt t r), iblk1_apply m c t r d (row_lt t r), iblk0_apply m c t r (row_lt t r)]
  rfl

/-- After point `n` the accumulator holds the contributions of the nodes of points `0` to `n`. -/
theorem acc_at (n : ℕ) (h : n < cfg0.N) (g : Fin 512) (d : Fin 256) :
    (outsAt0 m c n h).2.1 (ix2 g d) = ∑ t ∈ Finset.range (n + 1), ∑ r : Fin 2000, Pool.cont (part m c g d) (2000 * t + r.val) := by
  induction n with
  | zero =>
    rw [acc_first, pay1_apply, pay3_apply, zero_add, Finset.sum_range_one]
    exact Finset.sum_congr rfl fun r _ => pay6_node m c ⟨0, h⟩ g d r
  | succ n ih =>
    rw [acc_succ, pay1_apply, ih, Finset.sum_range_succ _ (n + 1)]
    exact congrArg (_ + ·) (Finset.sum_congr rfl fun r _ => pay6_node m c ⟨n + 1, h⟩ g d r)

/-- After point `n` the word holds the sum of the exponentials of the nodes of points `0` to `n`. -/
theorem word_at (n : ℕ) (h : n < cfg0.N) :
    (outsAt0 m c n h).2.2 wordIdx = ∑ t ∈ Finset.range (n + 1), ∑ r : Fin 2000, Pool.cont (expScore m c) (2000 * t + r.val) := by
  induction n with
  | zero =>
    rw [word_first, pay5_apply, Finset.sum_range_one]
    have e : (Scalar.ofBits (F := Ideal) .f32 0x00000000#32 : EReal) = 0 := Ideal.ofBits_zero_f32
    rw [e, zero_add]
    exact Finset.sum_congr rfl fun r _ => pay4_node m c ⟨0, h⟩ r
  | succ n ih =>
    rw [word_succ, pay5_apply, ih, Finset.sum_range_succ _ (n + 1)]
    exact congrArg (_ + ·) (Finset.sum_congr rfl fun r _ => pay4_node m c ⟨n + 1, h⟩ r)

/-- The sums over the 25 points of 2000 nodes are the sums over all nodes. -/
theorem sum_nodes (f : Fin 50000 → EReal) : (∑ t ∈ Finset.range 25, ∑ r : Fin 2000, Pool.cont f (2000 * t + r.val)) = ∑ n, f n := by
  rw [Pool.sum_blocks 25 2000]
  exact Finset.sum_congr rfl fun n _ => Pool.cont_of_lt f n.isLt

/-- The kernel's result is the pooled rows. -/
theorem result_apply (g : Fin 512) (d : Fin 256) :
    (Value.G6 m c : FVec Ideal S512x256 .f32) (ix2 g d) = Pool.pooled (X m c) (B m c) (W1 m c) (B1 m c) (W2 m c) (B2 m c) g d := by
  have h : 23 + 1 < cfg0.N := lt_of_lt_of_eq (by decide) N_0.symm
  rw [result_eq m c h, pay2_apply, acc_at, word_at, sum_nodes, sum_nodes]
  rfl

end Cert.KernelIdeal.KernelValue

end
-- ==== Proof.RefValue.lean ====
/-
  The reference's result at an index, when the last layer's weight and bias are real numbers: each softmax weight is an
  exponential over the sum of the exponentials, both shifted by the largest score, and the scatter adds a node's weighted
  row to the row its batch word names.
-/
module

public import proofs.«01_k».proof.Proof.PoolAlgebra
public import proofs.«01_k».proof.Proof.PoolSpec
public import proofs.«01_k».proof.Proof.Gen.ReferenceIdeal
public import Idealize.ShloMosaic.Lib.Pointwise
public import Idealize.ShloMosaic.Lib.Routing.OpsPair

@[expose] public section

set_option maxRecDepth 16384

noncomputable section

namespace Cert.ReferenceIdeal.RefValue

open Cert.ReferenceIdeal Cert.ReferenceIdeal.Gen Idealize.ShloMosaic

section Terms

variable {F : FTy → Type} [FloatOps F]

/-- The column of the scores. -/
def scores (x : FVec F S50000x256 .f32) (w1 : FVec F S256x128 .f32) (b1 : FVec F S128 .f32) (w2 : FVec F S128x1 .f32) (b2 : FVec F S1 .f32) : FVec F S50000x1 .f32 :=
  addf (Host.dotGeneral dot_S50000x128_S128x1_S50000x1_1_0_0_1_n_n none (Host.tanh (addf (Host.dotGeneral dot_S50000x256_S256x128_S50000x128_1_0_0_1_n_n none x w1) (broadcastInDim S50000x128 ![0, 1] bcast_S1x128_S50000x128_0_1 (broadcastInDim S1x128 ![1] bcast_S128_S1x128_1 b1)))) w2) (broadcastInDim S50000x1 ![0, 1] bcast_S1x1_S50000x1_0_1 (broadcastInDim S1x1 ![1] bcast_S1_S1x1_1 b2))

/-- The largest score, as an array of one element. -/
def top (sc : FVec F S50000x1 .f32) : FVec F S1 .f32 :=
  maximumf (broadcastInDim S1 ![] bcast_S_S1 (constant S_ .f32 0xFF800000#32)) (Host.reduce FloatOps.maximumf sc (constant S_ .f32 0xFF800000#32) reducesTo_S50000x1_S1_d0 h_S_)

/-- The exponentials of the scores less `mx`. -/
def exps (sc : FVec F S50000x1 .f32) (mx : FVec F S1 .f32) : FVec F S50000x1 .f32 :=
  Host.exp (subf sc (broadcastInDim S50000x1 ![0, 1] bcast_S1x1_S50000x1_0_1 (broadcastInDim S1x1 ![1] bcast_S1_S1x1_1 mx)))

/-- A column divided by its sum. -/
def share (ex : FVec F S50000x1 .f32) : FVec F S50000x1 .f32 :=
  Host.divf ex (broadcastInDim S50000x1 ![0, 1] bcast_S1x1_S50000x1_0_1 (broadcastInDim S1x1 ![1] bcast_S1_S1x1_1 (Host.reduceAdd ex (constant S_ .f32 0x00000000#32) reducesTo_S50000x1_S1_d0 h_S_)))

/-- The rows, each times its node's weight. -/
def rows (x : FVec F S50000x256 .f32) (wt : FVec F S50000x1 .f32) : FVec F S50000x256 .f32 :=
  mulf x (broadcastInDim S50000x256 ![0, 1] bcast_S50000x1_S50000x256_0_1 wt)

/-- The batch words as a column. -/
def words (b : IVec S50000 32) : IVec S50000x1 32 := broadcastInDim S50000x1 ![0] bcast_S50000_S50000x1_0 b

/-- The rows added up by batch word, starting from zero. -/
def spread (b : IVec S50000 32) (rw : FVec F S50000x256 .f32) : FVec F S512x256 .f32 :=
  Host.scatterAdd scatter_S512x256_S50000x1_S50000x256_1_0_0_1 (broadcastInDim S512x256 ![] bcast_S_S512x256 (constant S_ .f32 0x00000000#32)) (words b) rw

/-- The reference's whole term. -/
def result (x : FVec F S50000x256 .f32) (b : IVec S50000 32) (w1 : FVec F S256x128 .f32) (b1 : FVec F S128 .f32) (w2 : FVec F S128x1 .f32) (b2 : FVec F S1 .f32) : FVec F S512x256 .f32 :=
  spread b (rows x (share (exps (scores x w1 b1 w2 b2) (top (scores x w1 b1 w2 b2)))))

end Terms

section Scores

variable (x : FVec Ideal S50000x256 .f32) (w1 : FVec Ideal S256x128 .f32) (b1 : FVec Ideal S128 .f32) (w2 : FVec Ideal S128x1 .f32) (b2 : FVec Ideal S1 .f32)

/-- A score, read at its node. -/
theorem scores_apply (n : Fin 50000) : scores x w1 b1 w2 b2 (ix2 n 0) = Pool.score x w1 b1 w2 b2 n := by
  unfold Pool.score
  pointwise [scores]

/-- With a real last layer every score is a real number. -/
theorem score_real (hw : ∀ k, ∃ r : ℝ, w2 (ix2 k 0) = (r : EReal)) (hb : ∃ r : ℝ, b2 (ix1 0) = (r : EReal)) (n : Fin 50000) :
    ∃ r : ℝ, Pool.score x w1 b1 w2 b2 n = (r : EReal) :=
  Pool.real_of_sum_mul_add _ _ _ (fun _ => Pool.tanh_real _) hw hb

end Scores

/-- The maximum of a column of any length, as a fold. -/
theorem colmax_apply {N : ℕ} (v : FVec Ideal ⟨2, ![N, 1]⟩ .f32) (c : FVec Ideal S_ .f32) (h : (⟨2, ![N, 1]⟩ : Shape).ReducesTo [0] S1) (hu : 0 < S_.numel) :
    Host.reduce FloatOps.maximumf v c h hu (ix1 0) = Finset.univ.fold max (c (Shape.Idx.first hu)) fun n : Fin N => v (ix2 n 0) := by
  pointwise

/-- The largest of real scores is a real number. -/
theorem top_real (sc : FVec Ideal S50000x1 .f32) (s : Fin 50000 → ℝ) (hs : ∀ n, sc (ix2 n 0) = (s n : EReal)) : ∃ r : ℝ, top sc (ix1 0) = (r : EReal) := by
  have e : top sc (ix1 0) = max ⊥ (Finset.univ.fold max (⊥ : EReal) fun n => sc (ix2 n 0)) := by
    unfold top
    rw [maximumf_apply, colmax_apply]
    pointwise
    rw [show Ideal.ofBits .f32 0xFF800000#32 = ⊥ by simp [Ideal.ofBits, Ideal.ieee]]
  obtain ⟨r, hr⟩ := Pool.fold_max_real s
  refine ⟨r, ?_⟩
  rw [e, ← hr]
  simp only [hs, bot_le, max_eq_right]

/-- A shifted exponential, read at its node. -/
theorem exps_apply (sc : FVec Ideal S50000x1 .f32) (mx : FVec Ideal S1 .f32) (n : Fin 50000) :
    exps sc mx (ix2 n 0) = Ideal.exp (sc (ix2 n 0) - mx (ix1 0)) := by
  pointwise [exps]

/-- A node's share, read at its node. -/
theorem share_apply (ex : FVec Ideal S50000x1 .f32) (n : Fin 50000) : share ex (ix2 n 0) = Ideal.div (ex (ix2 n 0)) (∑ k : Fin 50000, ex (ix2 k 0)) := by
  pointwise [share]

/-- A weighted row, read at a column. -/
theorem rows_apply (x : FVec Ideal S50000x256 .f32) (wt : FVec Ideal S50000x1 .f32) (n : Fin 50000) (d : Fin 256) :
    rows x wt (ix2 n d) = x (ix2 n d) * wt (ix2 n 0) := by
  pointwise [rows]

/-- A batch word, read at its node. -/
theorem words_apply (b : IVec S50000 32) (n : Fin 50000) : words b (ix2 n 0) = b (ix1 n) := by
  pointwise [words]

/-- A word read signed is a segment's number exactly when it is that number's word. -/
theorem toInt_eq_iff (w : BitVec 32) (g : Fin 512) : w.toInt = (g.val : Int) ↔ BitVec.ofNat 32 g.val = w := by
  have h : (BitVec.ofNat 32 g.val).toInt = (g.val : Int) := by
    have := g.isLt
    rw [BitVec.toInt_eq_toNat_cond, BitVec.toNat_ofNat, Nat.mod_eq_of_lt (by omega), if_pos (by omega)]
  exact ⟨fun e => BitVec.eq_of_toInt_eq (h.trans e.symm), fun e => e ▸ h⟩

/-- The window of an update starts, on the row axis, at the node's word. -/
theorem start_row (idx : IVec S50000x1 32) (n : Fin 50000) (e : Fin 256) :
    scatter_S512x256_S50000x1_S50000x256_1_0_0_1.start (ix2 n e) idx 0 = (idx (ix2 n 0)).toInt := by
  unfold ScatterDims.start
  rw [dif_pos (by decide)]
  congr 2
  funext a
  match a with
  | ⟨0, _⟩ => rfl
  | ⟨1, _⟩ => rfl

/-- It starts at the left edge, on the column axis. -/
theorem start_col (idx : IVec S50000x1 32) (n : Fin 50000) (e : Fin 256) :
    scatter_S512x256_S50000x1_S50000x256_1_0_0_1.start (ix2 n e) idx 1 = 0 := by
  unfold ScatterDims.start
  rw [dif_neg (by decide)]

/-- The window has one row. -/
theorem window_row (n : Fin 50000) (e : Fin 256) : scatter_S512x256_S50000x1_S50000x256_1_0_0_1.window (ix2 n e) 0 = 0 := by
  unfold ScatterDims.window
  rw [dif_neg (by decide)]

/-- The window's column is the update's. -/
theorem window_col (n : Fin 50000) (e : Fin 256) : scatter_S512x256_S50000x1_S50000x256_1_0_0_1.window (ix2 n e) 1 = e.val := by
  unfold ScatterDims.window
  rw [dif_pos (by decide)]
  rfl

/-- An update lands in the row its node's word names, in its own column. -/
theorem lands_iff (idx : IVec S50000x1 32) (n : Fin 50000) (e : Fin 256) (g : Fin 512) (d : Fin 256) :
    scatter_S512x256_S50000x1_S50000x256_1_0_0_1.resultIdx? (ix2 n e) idx = some (ix2 g d) ↔ BitVec.ofNat 32 g.val = idx (ix2 n 0) ∧ e = d := by
  rw [Routing.resultIdx?_eq_some, ← toInt_eq_iff]
  refine Fin.forall_fin_two.trans ?_
  rw [start_row, start_col, window_row, window_col, ix2_0, ix2_1, Fin.ext_iff]
  omega

/-- The scatter, read at an index: the sum over the nodes whose word names the row. -/
theorem spread_apply (b : IVec S50000 32) (rw' : FVec Ideal S50000x256 .f32) (g : Fin 512) (d : Fin 256) :
    spread b rw' (ix2 g d) = ∑ n : Fin 50000, if BitVec.ofNat 32 g.val = b (ix1 n) then rw' (ix2 n d) else 0 := by
  have z : (broadcastInDim S512x256 ![] bcast_S_S512x256 (constant S_ .f32 0x00000000#32) : FVec Ideal S512x256 .f32) (ix2 g d) = 0 := by
    pointwise
  unfold spread Host.scatterAdd
  rw [Ideal.hostScatterAdd_def]
  unfold Ideal.hostScatterAdd
  rw [z, zero_add, Finset.sum_filter, sum_idx2]
  refine Finset.sum_congr rfl fun n _ => ?_
  simp only [lands_iff, words_apply]
  by_cases h : BitVec.ofNat 32 g.val = b (ix1 n)
  · simp only [h, true_and, if_true, Finset.sum_ite_eq', Finset.mem_univ]
  · simp only [h, false_and, if_false, Finset.sum_const_zero]

/-- The reference's result at an index is the pooled row, when the last layer is real. -/
theorem result_apply (x : FVec Ideal S50000x256 .f32) (b : IVec S50000 32) (w1 : FVec Ideal S256x128 .f32) (b1 : FVec Ideal S128 .f32) (w2 : FVec Ideal S128x1 .f32)
    (b2 : FVec Ideal S1 .f32) (hw : ∀ k, ∃ r : ℝ, w2 (ix2 k 0) = (r : EReal)) (hb : ∃ r : ℝ, b2 (ix1 0) = (r : EReal)) (g : Fin 512) (d : Fin 256) :
    result x b w1 b1 w2 b2 (ix2 g d) = Pool.pooled x b w1 b1 w2 b2 g d := by
  choose s hs using score_real x w1 b1 w2 b2 hw hb
  obtain ⟨M, hM⟩ := top_real (scores x w1 b1 w2 b2) s fun n => (scores_apply ..).trans (hs n)
  unfold result Pool.pooled Pool.part
  simp only [spread_apply, rows_apply, share_apply, exps_apply, scores_apply, hs, hM]
  exact (Pool.pool_eq s M (fun n => BitVec.ofNat 32 g.val = b (ix1 n)) fun n => x (ix2 n d)).symm

end Cert.ReferenceIdeal.RefValue

end
-- ==== Proof.PreFinite.lean ====
/-
  The precondition read back: the last layer's weight and bias are real numbers.
-/
module

public import proofs.«01_k».proof.Proof.PoolAlgebra
public import proofs.«01_k».proof.Proof.Gen.Pre_finite_head
public import Idealize.ShloMosaic.Lib.Pointwise
public import Idealize.ShloMosaic.Lib.ReduceAll

@[expose] public section

noncomputable section

namespace Cert.Pre_finite_head

open Cert.Pre_finite_head.Gen Idealize.ShloMosaic

/-- A value whose magnitude compares less than the word of plus infinity is a real number. -/
theorem real_of_lt (x : EReal) (h : Ideal.cmp .olt (max x (-x)) (Ideal.ofBits .f32 0x7F800000#32) = 1#1) : ∃ r : ℝ, x = (r : EReal) := by
  rw [show Ideal.ofBits .f32 0x7F800000#32 = ⊤ by simp [Ideal.ofBits, Ideal.ieee]] at h
  refine Pool.real_of_abs_lt_top ?_
  by_contra hn
  simp [Ideal.cmp, hn] at h

/-- The precondition's index type has one element. -/
instance : Subsingleton S_.Idx := ⟨fun _ _ => funext fun a => a.elim0⟩

/-- Under the precondition the last layer's weights and bias are real numbers. -/
theorem real_head (x : FVec Ideal S50000x256 .f32) (b : IVec S50000 32) (w1 : FVec Ideal S256x128 .f32) (b1 : FVec Ideal S128 .f32) (w2 : FVec Ideal S128x1 .f32)
    (b2 : FVec Ideal S1 .f32) (h : fn (F := Ideal) x b w1 b1 w2 b2 = fun _ => 1#1) :
    (∀ k : Fin 128, ∃ r : ℝ, w2 (ix2 k 0) = (r : EReal)) ∧ ∃ r : ℝ, b2 (ix1 0) = (r : EReal) := by
  have h0 := congrFun h (fun a => a.elim0)
  obtain ⟨h1, h2⟩ := IntOp.andi_eq_one.1 h0
  exact ⟨fun k => real_of_lt _ (Host.reduce_andi_all _ _ _ _ _ h1 (ix2 k 0)), real_of_lt _ (Host.reduce_andi_all _ _ _ _ _ h2 (ix1 0))⟩

end Cert.Pre_finite_head

end
-- ==== Proof.lean ====
/-
  The five claims, put together: the frames from the generated runs, and the value claim from the two programs' results
  read at an index.
-/
module

public import proofs.«01_k».proof.Defs
public import proofs.«01_k».proof.Proof.Gen.Kernel.Frame
public import proofs.«01_k».proof.Proof.Gen.KernelIdeal.Value
public import proofs.«01_k».proof.Proof.Gen.Pre_finite_head
public import proofs.«01_k».proof.Proof.Gen.ReferenceIdeal.Run
public import proofs.«01_k».proof.Proof.KernelValue
public import proofs.«01_k».proof.Proof.RefValue
public import proofs.«01_k».proof.Proof.PreFinite
public import Idealize.ShloMosaic.Adequacy
public import Idealize.ShloMosaic.Init
public import Idealize.ShloMosaic.Lib.Quiescent

@[expose] public section

noncomputable section

namespace Cert.Proof

open Idealize.ShloMosaic Idealize.SL.Sem

/-- The reference keeps its arguments and ends with every counter at zero. -/
theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- It does so under the precondition too. -/
theorem quiescent_ReferenceIdeal_pre_finite_head : Cert.quiescent_ReferenceIdeal_pre_finite_head := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two programs' results are equal when the last layer is finite. -/
theorem algebraic_KernelIdeal_ReferenceIdeal_pre_finite_head : Cert.algebraic_KernelIdeal_ReferenceIdeal_pre_finite_head := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨h0, h1, h2, h3, h4, h5⟩ := hagree c
  rw [h0, h1, h2, h3, h4, h5]
  obtain ⟨hw, hb⟩ := Cert.Pre_finite_head.real_head _ _ _ _ _ _ (hpre c)
  funext j
  rw [eq_ix2 j]
  exact (Cert.ReferenceIdeal.RefValue.result_apply _ _ _ _ _ _ hw hb (j 0) (j 1)).trans (Cert.KernelIdeal.KernelValue.result_apply m c (j 0) (j 1)).symm

/-- The certificate's claim. -/
theorem claim : Cert.Claim := ⟨Cert.Kernel.Gen.facts, Cert.KernelIdeal.Gen.facts, Cert.ReferenceIdeal.Gen.facts, Cert.Pre_finite_head.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre_finite_head, (trivial : preserves_Kernel_KernelIdeal),
  algebraic_KernelIdeal_ReferenceIdeal_pre_finite_head⟩

end Cert.Proof

end
